-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_nonzero [hPre_steps_nonzero : Cert.Pre_steps_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_nonzero [hPre_steps_nonzero : Cert.Pre_steps_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_steps_nonzero [hKernelIdeal : Cert.KernelIdeal.Facts] [hPre_steps_nonzero : Cert.Pre_steps_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_steps_nonzero [hReferenceIdeal : Cert.ReferenceIdeal.Facts] [hPre_steps_nonzero : Cert.Pre_steps_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_steps_nonzero [hKernelIdeal : Cert.KernelIdeal.Facts] [hReferenceIdeal : Cert.ReferenceIdeal.Facts] [hPre_steps_nonzero : Cert.Pre_steps_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_steps_nonzero : Cert.Pre_steps_nonzero.Facts),
    quiescent_Kernel (hKernel := hKernel)
    ∧ quiescent_KernelIdeal (hKernelIdeal := hKernelIdeal)
    ∧ quiescent_KernelIdeal_pre_steps_nonzero (hKernelIdeal := hKernelIdeal) (hPre_steps_nonzero := hPre_steps_nonzero)
    ∧ quiescent_ReferenceIdeal (hReferenceIdeal := hReferenceIdeal)
    ∧ quiescent_ReferenceIdeal_pre_steps_nonzero (hReferenceIdeal := hReferenceIdeal) (hPre_steps_nonzero := hPre_steps_nonzero)
    ∧ preserves_Kernel_KernelIdeal
    ∧ algebraic_KernelIdeal_ReferenceIdeal_pre_steps_nonzero (hKernelIdeal := hKernelIdeal) (hReferenceIdeal := hReferenceIdeal) (hPre_steps_nonzero := hPre_steps_nonzero)
-- ==== Pre_steps_nonzero.lean ====
abbrev S16x1x64x128x128 : Shape := ⟨5, ![16, 1, 64, 128, 128]⟩
abbrev S16x1 : Shape := ⟨2, ![16, 1]⟩
abbrev S_ : Shape := ⟨0, ![]⟩

class Facts : Prop where
  bcast_S_S16x1 : S_.BroadcastsInDim S16x1 (![] : Fin 0 → Fin S16x1.rank)

variable [Facts]

def fn {F : FTy → Type} [FloatOps F] (main_arg0 : FVec F S16x1x64x128x128 .f32) (main_arg1 : FVec F S16x1x64x128x128 .f32) (main_arg2 : FVec F S16x1x64x128x128 .f32) (main_arg3 : FVec F S16x1 .f32) (main_arg4 : FVec F S16x1 .f32) (main_arg5 : FVec F S16x1x64x128x128 .f32) : IVec S16x1 1 :=
  let main_v0 : FVec F S16x1 .f32 := subf main_arg3 main_arg4
  let main_cst : FVec F S_ .f32 := constant S_ .f32 0x00000000#32
  let main_v1 : FVec F S16x1 .f32 := broadcastInDim S16x1 ![] bcast_S_S16x1 main_cst
  let main_v2 : IVec S16x1 1 := cmpf .une main_v0 main_v1
  main_v2
-- ==== Kernel.lean ====
abbrev S16x1x64x128x128 : Shape := ⟨5, ![16, 1, 64, 128, 128]⟩
abbrev S16x1 : Shape := ⟨2, ![16, 1]⟩
abbrev S16x64x128x128 : Shape := ⟨4, ![16, 64, 128, 128]⟩
abbrev S16x1x1 : Shape := ⟨3, ![16, 1, 1]⟩
abbrev S16x8x128 : Shape := ⟨3, ![16, 8, 128]⟩
abbrev S8x128 : Shape := ⟨2, ![8, 128]⟩
abbrev S1x8x128 : Shape := ⟨3, ![1, 8, 128]⟩
abbrev S1x64x128x128 : Shape := ⟨4, ![1, 64, 128, 128]⟩
abbrev S1x32x128x128 : Shape := ⟨4, ![1, 32, 128, 128]⟩
abbrev S32x128x128 : Shape := ⟨3, ![32, 128, 128]⟩
abbrev S1x1x1 : Shape := ⟨3, ![1, 1, 1]⟩
abbrev S1x128x128 : Shape := ⟨3, ![1, 128, 128]⟩
abbrev S32x1x128 : Shape := ⟨3, ![32, 1, 128]⟩
abbrev S32x128x1 : Shape := ⟨3, ![32, 128, 1]⟩
abbrev S1x31x128x128 : Shape := ⟨4, ![1, 31, 128, 128]⟩
abbrev S31x128x128 : Shape := ⟨3, ![31, 128, 128]⟩
abbrev S32x127x128 : Shape := ⟨3, ![32, 127, 128]⟩
abbrev S32x128x127 : Shape := ⟨3, ![32, 128, 127]⟩
abbrev S1 : Shape := ⟨1, ![1]⟩
abbrev S1x1x1x1 : Shape := ⟨4, ![1, 1, 1, 1]⟩
abbrev S1x1 : Shape := ⟨2, ![1, 1]⟩
abbrev S_ : Shape := ⟨0, ![]⟩

abbrev nBuf : Space → Nat
  | .hbm => 18
  | .vmem => 11
  | .smem => 0
  | _ => 0

abbrev bufTy : (tb : Table) → Fin (tcTables nBuf tb) → BufTy
  | .hbm, ⟨0, _⟩ => ⟨S16x1x64x128x128, .f32⟩
  | .hbm, ⟨1, _⟩ => ⟨S16x1x64x128x128, .f32⟩
  | .hbm, ⟨2, _⟩ => ⟨S16x1x64x128x128, .f32⟩
  | .hbm, ⟨3, _⟩ => ⟨S16x1, .f32⟩
  | .hbm, ⟨4, _⟩ => ⟨S16x1, .f32⟩
  | .hbm, ⟨5, _⟩ => ⟨S16x1x64x128x128, .f32⟩
  | .hbm, ⟨6, _⟩ => ⟨S16x64x128x128, .f32⟩
  | .hbm, ⟨7, _⟩ => ⟨S16x64x128x128, .f32⟩
  | .hbm, ⟨8, _⟩ => ⟨S16x64x128x128, .f32⟩
  | .hbm, ⟨9, _⟩ => ⟨S16x64x128x128, .f32⟩
  | .hbm, ⟨10, _⟩ => ⟨S16x1, .f32⟩
  | .hbm, ⟨11, _⟩ => ⟨S16x1x1, .f32⟩
  | .hbm, ⟨12, _⟩ => ⟨S16x8x128, .f32⟩
  | .hbm, ⟨13, _⟩ => ⟨S8x128, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x8x128, .f32⟩
  | .local _ .vmem, ⟨1, _⟩ => ⟨S1x8x128, .f32⟩
  | .local _ .vmem, ⟨2, _⟩ => ⟨S1x64x128x128, .f32⟩
  | .local _ .vmem, ⟨3, _⟩ => ⟨S1x64x128x128, .f32⟩
  | .local _ .vmem, ⟨4, _⟩ => ⟨S1x32x128x128, .f32⟩
  | .local _ .vmem, ⟨5, _⟩ => ⟨S1x32x128x128, .f32⟩
  | .local _ .vmem, ⟨6, _⟩ => ⟨S1x32x128x128, .f32⟩
  | .local _ .vmem, ⟨7, _⟩ => ⟨S1x32x128x128, .f32⟩
  | .local _ .vmem, ⟨8, _⟩ => ⟨S1x32x128x128, .f32⟩
  | .local _ .vmem, ⟨9, _⟩ => ⟨S1x32x128x128, .f32⟩
  | .local _ .vmem, ⟨10, _⟩ => ⟨S8x128, .f32⟩
  | _, _ => ⟨S16x1x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_17 : BitVec 32 := 0#32
  let v14 : BitVec 1 := Scalar.cmpi .ne v13 c0_i32_17
  v14

def k0_cond2 (i : grid0.Coords) : BitVec 1 :=
  let arg0 : BitVec 32 := BitVec.ofNat 32 (i 0).val
  let c0_i32_36 : BitVec 32 := 0#32
  let v62 : BitVec 1 := Scalar.cmpi .eq arg0 c0_i32_36
  let arg1 : BitVec 32 := BitVec.ofNat 32 (i 1).val
  let c0_i32_37 : BitVec 32 := 0#32
  let v63 : BitVec 1 := Scalar.cmpi .eq arg1 c0_i32_37
  let v64 : BitVec 1 := Scalar.andi v62 v63
  let v65 : BitVec 32 := Scalar.extui v64
  let c0_i32_38 : BitVec 32 := 0#32
  let v66 : BitVec 1 := Scalar.cmpi .ne v65 c0_i32_38
  v66

def k0_cond3 (i : grid0.Coords) : BitVec 1 :=
  let arg0 : BitVec 32 := BitVec.ofNat 32 (i 0).val
  let c0_i32_39 : BitVec 32 := 0#32
  let v67 : BitVec 1 := Scalar.cmpi .ne arg0 c0_i32_39
  let arg1 : BitVec 32 := BitVec.ofNat 32 (i 1).val
  let c0_i32_40 : BitVec 32 := 0#32
  let v68 : BitVec 1 := Scalar.cmpi .ne arg1 c0_i32_40
  let v69 : BitVec 1 := Scalar.ori v67 v68
  let v70 : BitVec 32 := Scalar.extui v69
  let c0_i32_41 : BitVec 32 := 0#32
  let v71 : BitVec 1 := Scalar.cmpi .ne v70 c0_i32_41
  v71

def k0_cond4 (i : grid0.Coords) : BitVec 1 :=
  let arg1 : BitVec 32 := BitVec.ofNat 32 (i 1).val
  let c1_i32 : BitVec 32 := 1#32
  let v15 : BitVec 1 := Scalar.cmpi .eq arg1 c1_i32
  let v16 : BitVec 32 := Scalar.extui v15
  let c0_i32_18 : BitVec 32 := 0#32
  let v17 : BitVec 1 := Scalar.cmpi .ne v16 c0_i32_18
  v17

def k0_cond5 (i : grid0.Coords) : BitVec 1 :=
  let arg0 : BitVec 32 := BitVec.ofNat 32 (i 0).val
  let c0_i32_34 : BitVec 32 := 0#32
  let v62 : BitVec 1 := Scalar.cmpi .eq arg0 c0_i32_34
  let arg1 : BitVec 32 := BitVec.ofNat 32 (i 1).val
  let c0_i32_35 : BitVec 32 := 0#32
  let v63 : BitVec 1 := Scalar.cmpi .eq arg1 c0_i32_35
  let v64 : BitVec 1 := Scalar.andi v62 v63
  let v65 : BitVec 32 := Scalar.extui v64
  let c0_i32_36 : BitVec 32 := 0#32
  let v66 : BitVec 1 := Scalar.cmpi .ne v65 c0_i32_36
  v66

def k0_cond6 (i : grid0.Coords) : BitVec 1 :=
  let arg0 : BitVec 32 := BitVec.ofNat 32 (i 0).val
  let c0_i32_37 : BitVec 32 := 0#32
  let v67 : BitVec 1 := Scalar.cmpi .ne arg0 c0_i32_37
  let arg1 : BitVec 32 := BitVec.ofNat 32 (i 1).val
  let c0_i32_38 : BitVec 32 := 0#32
  let v68 : BitVec 1 := Scalar.cmpi .ne arg1 c0_i32_38
  let v69 : BitVec 1 := Scalar.ori v67 v68
  let v70 : BitVec 32 := Scalar.extui v69
  let c0_i32_39 : BitVec 32 := 0#32
  let v71 : BitVec 1 := Scalar.cmpi .ne v70 c0_i32_39
  v71

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S16x1x64x128x128 : Shape := ⟨5, ![16, 1, 64, 128, 128]⟩
abbrev S16x1 : Shape := ⟨2, ![16, 1]⟩
abbrev S16x1x1x1x1 : Shape := ⟨5, ![16, 1, 1, 1, 1]⟩
abbrev S_ : Shape := ⟨0, ![]⟩
abbrev S16x1x66x130x130 : Shape := ⟨5, ![16, 1, 66, 130, 130]⟩

abbrev nBuf : Space → Nat
  | .hbm => 57
  | .vmem => 0
  | .smem => 0
  | _ => 0

abbrev bufTy : (tb : Table) → Fin (tcTables nBuf tb) → BufTy
  | .hbm, ⟨0, _⟩ => ⟨S16x1x64x128x128, .f32⟩
  | .hbm, ⟨1, _⟩ => ⟨S16x1x64x128x128, .f32⟩
  | .hbm, ⟨2, _⟩ => ⟨S16x1x64x128x128, .f32⟩
  | .hbm, ⟨3, _⟩ => ⟨S16x1, .f32⟩
  | .hbm, ⟨4, _⟩ => ⟨S16x1, .f32⟩
  | .hbm, ⟨5, _⟩ => ⟨S16x1x64x128x128, .f32⟩
  | .hbm, ⟨6, _⟩ => ⟨S16x1, .f32⟩
  | .hbm, ⟨7, _⟩ => ⟨S16x1x1x1x1, .f32⟩
  | .hbm, ⟨8, _⟩ => ⟨S16x1x64x128x128, .f32⟩
  | .hbm, ⟨9, _⟩ => ⟨S16x1x64x128x128, .f32⟩
  | .hbm, ⟨10, _⟩ => ⟨S16x1x64x128x128, .f32⟩
  | .hbm, ⟨11, _⟩ => ⟨S_, .f32⟩
  | .hbm, ⟨12, _⟩ => ⟨S16x1x64x128x128, .f32⟩
  | .hbm, ⟨13, _⟩ => ⟨S16x1x64x128x128, .i1⟩
  | .hbm, ⟨14, _⟩ => ⟨S_, .f32⟩
  | .hbm, ⟨15, _⟩ => ⟨S_, .f32⟩
  | .hbm, ⟨16, _⟩ => ⟨S16x1x64x128x128, .f32⟩
  | .hbm, ⟨17, _⟩ => ⟨S16x1x64x128x128, .f32⟩
  | .hbm, ⟨18, _⟩ => ⟨S16x1x64x128x128, .f32⟩
  | .hbm, ⟨19, _⟩ => ⟨S_, .i32⟩
  | .hbm, ⟨20, _⟩ => ⟨S_, .f32⟩
  | .hbm, ⟨21, _⟩ => ⟨S16x1x66x130x130, .f32⟩
  | .hbm, ⟨22, _⟩ => ⟨S16x1x64x128x128, .f32⟩
  | .hbm, ⟨23, _⟩ => ⟨S16x1x64x128x128, .f32⟩
  | .hbm, ⟨24, _⟩ => ⟨S16x1x64x128x128, .f32⟩
  | .hbm, ⟨25, _⟩ => ⟨S16x1x64x128x128, .f32⟩
  | .hbm, ⟨26, _⟩ => ⟨S16x1x64x128x128, .f32⟩
  | .hbm, ⟨27, _⟩ => ⟨S16x1x64x128x128, .f32⟩
  | .hbm, ⟨28, _⟩ => ⟨S16x1x64x128x128, .f32⟩
  | .hbm, ⟨29, _⟩ => ⟨S16x1x64x128x128, .f32⟩
  | .hbm, ⟨30, _⟩ => ⟨S16x1x64x128x128, .f32⟩
  | .hbm, ⟨31, _⟩ => ⟨S16x1x64x128x128, .f32⟩
  | .hbm, ⟨32, _⟩ => ⟨S16x1x64x128x128, .f32⟩
  | .hbm, ⟨33, _⟩ => ⟨S16x1x64x128x128, .f32⟩
  | .hbm, ⟨34, _⟩ => ⟨S_, .f32⟩
  | .hbm, ⟨35, _⟩ => ⟨S16x1x64x128x128, .f32⟩
  | .hbm, ⟨36, _⟩ => ⟨S16x1x64x128x128, .f32⟩
  | .hbm, ⟨37, _⟩ => ⟨S16x1x64x128x128, .f32⟩
  | .hbm, ⟨38, _⟩ => ⟨S_, .f32⟩
  | .hbm, ⟨39, _⟩ => ⟨S16x1x64x128x128, .f32⟩
  | .hbm, ⟨40, _⟩ => ⟨S16x1x64x128x128, .f32⟩
  | .hbm, ⟨41, _⟩ => ⟨S16x1x64x128x128, .f32⟩
  | .hbm, ⟨42, _⟩ => ⟨S16x1x64x128x128, .f32⟩
  | .hbm, ⟨43, _⟩ => ⟨S16x1x64x128x128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16x1x64x128x128, .f32⟩
  | .hbm, ⟨49, _⟩ => ⟨S16x1x64x128x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S16x1x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_c : Ref sig .tc := ⟨.hbm, 19, rfl⟩
abbrev main_call1_v0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.Spec.lean ====
/-
  The loss as mathematics on extended reals, independent of how either program walks its arrays: the shifted reading of a
  volume with zeros outside it, the seven-point Laplacian, the misfit of the diffusion equation at one place, the sum of
  its square and of the squared error there, and the algebra that turns one program's spelling into the other's.
-/
module

public import Idealize.ShloMosaic.PureOps.Ideal
public import Idealize.ShloMosaic.PureOps.Ideal.Laws
public import Idealize.ShloMosaic.Lib.IdealHost

@[expose] public section

noncomputable section

namespace Cert.Loss

open Idealize.ShloMosaic

/-- One sample of the input: a value at each depth, row and column. -/
abbrev Vol := Fin 64 → Fin 128 → Fin 128 → EReal

/-- A sample in a frame of zeros one place wide: position `(d + 1, h + 1, w + 1)` is the sample's `(d, h, w)`. -/
def framed (f : Vol) (d h w : ℕ) : EReal :=
  if p : (1 ≤ d ∧ d - 1 < 64) ∧ (1 ≤ h ∧ h - 1 < 128) ∧ (1 ≤ w ∧ w - 1 < 128) then
    f ⟨d - 1, p.1.2⟩ ⟨h - 1, p.2.1.2⟩ ⟨w - 1, p.2.2.2⟩
  else 0

/-- Inside the frame the framed sample is the sample. -/
theorem framed_in (f : Vol) {d h w : ℕ} (a : Fin 64) (b c : Fin 128) (hd : d = a.val + 1) (hh : h = b.val + 1)
    (hw : w = c.val + 1) : framed f d h w = f a b c := by
  subst hd hh hw
  have ha := a.isLt
  have hb := b.isLt
  have hc := c.isLt
  unfold framed
  rw [dif_pos (by omega)]
  rfl

/-- On the frame it is zero. -/
theorem framed_out (f : Vol) {d h w : ℕ} (p : (d = 0 ∨ 65 ≤ d) ∨ (h = 0 ∨ 129 ≤ h) ∨ (w = 0 ∨ 129 ≤ w)) :
    framed f d h w = 0 := by
  unfold framed
  rw [dif_neg (by omega)]

/-- The diffusion coefficient. -/
abbrev alpha : EReal := Ideal.ofBits .f32 0x3CD288CE#32
/-- The input above which a place burns. -/
abbrev threshold : EReal := Ideal.ofBits .f32 0x3D12BFC7#32
/-- The strength of a burning place's source. -/
abbrev source : EReal := Ideal.ofBits .f32 0x4069F99B#32
/-- The number of neighbours, six. -/
abbrev six : EReal := Ideal.ofBits .f32 0x40C00000#32
/-- The weight of the stencil's centre, minus six. -/
abbrev negSix : EReal := Ideal.ofBits .f32 0xC0C00000#32

/-- The number of places the two means divide by. -/
abbrev places : EReal := Ideal.ofBits .f32 0x4B800000#32

/-- The seven-point Laplacian at a place: the six neighbours in the framed sample, and the centre weighted by `-6`. -/
def lap (f : Vol) (d : Fin 64) (h w : Fin 128) : EReal :=
  framed f d.val (h.val + 1) (w.val + 1) + framed f (d.val + 2) (h.val + 1) (w.val + 1)
    + framed f (d.val + 1) h.val (w.val + 1) + framed f (d.val + 1) (h.val + 2) (w.val + 1)
    + framed f (d.val + 1) (h.val + 1) w.val + framed f (d.val + 1) (h.val + 1) (w.val + 2)
    + negSix * f d h w

/-- The misfit at a place whose temporal derivative is `q`. -/
def misfit (f : Vol) (q : EReal) (d : Fin 64) (h w : Fin 128) : EReal :=
  q - alpha * lap f d h w - (if threshold < f d h w then source else 0)

/-- Six is the real number 6. -/
theorem six_coe : six = ((6 : ℝ) : EReal) := by
  simp [Ideal.ofBits, Ideal.ieee, -EReal.coe_mul]; norm_num

/-- Minus six is the real number -6. -/
theorem negSix_coe : negSix = ((-6 : ℝ) : EReal) := by
  simp [Ideal.ofBits, Ideal.ieee, -EReal.coe_mul, -EReal.coe_neg]; norm_num

/-- The number of places is the real number 2 ^ 24. -/
theorem places_coe : places = ((16777216 : ℝ) : EReal) := by
  simp [Ideal.ofBits, Ideal.ieee, -EReal.coe_mul]; norm_num

/-- The Laplacian with the neighbours of a row and of a column taken in the other order, and the centre subtracted. -/
theorem lap_eq (a b c d e f x : EReal) :
    a + b + d + c + f + e - six * x = a + b + c + d + e + f + negSix * x := by
  rw [negSix_coe, EReal.coe_neg, ← six_coe, neg_mul, sub_eq_add_neg]
  ac_rfl

/-- A misfit written with the kernel's order of neighbours, each read as the framed sample's. -/
theorem misfit_of {f : Vol} {k : Fin 64} {h w : Fin 128} {q a b c d e g x : EReal}
    (ha : a = framed f k.val (h.val + 1) (w.val + 1)) (hb : b = framed f (k.val + 2) (h.val + 1) (w.val + 1))
    (hc : c = framed f (k.val + 1) h.val (w.val + 1)) (hd : d = framed f (k.val + 1) (h.val + 2) (w.val + 1))
    (he : e = framed f (k.val + 1) (h.val + 1) w.val) (hg : g = framed f (k.val + 1) (h.val + 1) (w.val + 2))
    (hx : x = f k h w) :
    q - alpha * (a + b + d + c + g + e - six * x) - (if threshold < x then source else 0) = misfit f q k h w := by
  unfold misfit lap
  rw [lap_eq, ha, hb, hc, hd, he, hg, hx]

/-- A square of an extended real is not negative. -/
theorem sq_nonneg (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- Dividing by the number of places is additive on quantities that are not negative. -/
theorem div_places_add {x y : EReal} (hx : 0 ≤ x) (hy : 0 ≤ y) :
    Ideal.div (x + y) places = Ideal.div x places + Ideal.div y places := by
  rw [places_coe, Ideal.div_coe (by norm_num), Ideal.div_coe (by norm_num), Ideal.div_coe (by norm_num)]
  exact EReal.right_distrib_of_nonneg hx hy

/-- One sum of both squares over all places, divided by their number, is the mean of the one square plus one times the
    mean of the other, each mean's sum started from zero. -/
theorem loss_eq (r e : Fin 16 → Fin 64 → Fin 128 → Fin 128 → EReal) :
    Ideal.div (∑ b, ∑ d, ∑ h, ∑ w, (r b d h w * r b d h w + e b d h w * e b d h w)) places
      = Ideal.div (0 + ∑ b, ∑ d, ∑ h, ∑ w, e b d h w * e b d h w) places
        + 1 * Ideal.div (0 + ∑ b, ∑ d, ∑ h, ∑ w, r b d h w * r b d h w) places := by
  have sums (x : Fin 16 → Fin 64 → Fin 128 → Fin 128 → EReal) : 0 ≤ ∑ b, ∑ d, ∑ h, ∑ w, x b d h w * x b d h w :=
    Finset.sum_nonneg fun _ _ => Finset.sum_nonneg fun _ _ => Finset.sum_nonneg fun _ _ => Finset.sum_nonneg fun _ _ =>
      sq_nonneg _
  simp only [Finset.sum_add_distrib, zero_add, one_mul]
  rw [div_places_add (sums r) (sums e), add_comm]

end Cert.Loss

end
-- ==== Proof.Block.lean ====
/-
  One grid point's arithmetic, read at extended reals: the body's sum over its half of a sample is the sum of both squares
  at each of the half's places, each read in the whole sample. The lower half takes the neighbour below its first plane to
  be zero, the upper half the neighbour above its last; in the framed sample both are the frame.
-/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Loss

open Idealize.ShloMosaic Idealize.ShloMosaic.TcCoe Idealize.SL.Sem
open Cert.KernelIdeal Cert.KernelIdeal.Gen Cert.Loss

/-- A block of the input as a sample. -/
abbrev sample (x : Vec Ideal S1x64x128x128 .f32) : Vol := fun d h w => x (ix4 0 d h w)

/-- The depth in a sample of half `s`'s plane `d`. -/
def depth (s : Fin 2) (d : Fin 32) : Fin 64 := ⟨s.val * 32 + d.val, by have := s.isLt; have := d.isLt; omega⟩

/-- A plane of the lower half has its own depth. -/
theorem depth_low (d : Fin 32) : (depth 0 d).val = d.val := by simp [depth]

/-- A plane of the upper half lies 32 deeper. -/
theorem depth_high (d : Fin 32) : (depth 1 d).val = 32 + d.val := by simp [depth]

/-- Both squares at place `(d, h, w)` of half `s` of a sample, from the point's blocks. -/
def cell (dt : Vec Ideal S1x8x128 .f32) (x : Vec Ideal S1x64x128x128 .f32) (o op tg : Vec Ideal S1x32x128x128 .f32)
    (s : Fin 2) (d : Fin 32) (h w : Fin 128) : EReal :=
  misfit (sample x) ((o (ix4 0 d h w) - op (ix4 0 d h w)) * Ideal.div 1 (dt (ix3 0 0 0)))
      (depth s d) h w
    * misfit (sample x) ((o (ix4 0 d h w) - op (ix4 0 d h w)) * Ideal.div 1 (dt (ix3 0 0 0)))
      (depth s d) h w
    + (o (ix4 0 d h w) - tg (ix4 0 d h w)) * (o (ix4 0 d h w) - tg (ix4 0 d h w))

/-- The sum of both squares over half `s` of a sample. -/
def half (dt : Vec Ideal S1x8x128 .f32) (x : Vec Ideal S1x64x128x128 .f32) (o op tg : Vec Ideal S1x32x128x128 .f32)
    (s : Fin 2) : EReal :=
  ∑ d : Fin 32, ∑ h : Fin 128, ∑ w : Fin 128, cell dt x o op tg s d h w

/-- The body's sum at a point of the lower half, before it is spread over the accumulator. -/
def lowSum (dt : Vec Ideal S1x8x128 .f32) (x : Vec Ideal S1x64x128x128 .f32) (o op tg : Vec Ideal S1x32x128x128 .f32) :
    FVec Ideal S1x1x1x1 .f32 :=
  k0_pay12 (k0_pay1 o) (k0_pay2 op) (k0_pay3 tg)
    (k0_pay4 (View.ld dt (Rect.unit ![0, 0, 0] ![1, 1, 1] inb_S1x8x128_S1x1x1_0_0_0))) k0_pay5 k0_pay6 k0_pay7
    (View.ld x (Rect.unit ![0, 0, 0, 0] ![1, 32, 128, 128] inb_S1x64x128x128_S1x32x128x128_0_0_0_0))
    (View.ld x (Rect.unit ![0, 0, 0, 0] ![1, 31, 128, 128] inb_S1x64x128x128_S1x31x128x128_0_0_0_0))
    (View.ld x (Rect.unit ![0, 1, 0, 0] ![1, 32, 128, 128] inb_S1x64x128x128_S1x32x128x128_0_1_0_0))

/-- The body's sum at a point of the upper half, before it is spread over the accumulator. -/
def highSum (dt : Vec Ideal S1x8x128 .f32) (x : Vec Ideal S1x64x128x128 .f32) (o op tg : Vec Ideal S1x32x128x128 .f32) :
    FVec Ideal S1x1x1x1 .f32 :=
  k0_pay13 (k0_pay1 o) (k0_pay2 op) (k0_pay3 tg)
    (k0_pay4 (View.ld dt (Rect.unit ![0, 0, 0] ![1, 1, 1] inb_S1x8x128_S1x1x1_0_0_0))) k0_pay5 k0_pay6 k0_pay7
    (View.ld x (Rect.unit ![0, 32, 0, 0] ![1, 32, 128, 128] inb_S1x64x128x128_S1x32x128x128_0_32_0_0))
    (View.ld x (Rect.unit ![0, 31, 0, 0] ![1, 32, 128, 128] inb_S1x64x128x128_S1x32x128x128_0_31_0_0))
    (View.ld x (Rect.unit ![0, 33, 0, 0] ![1, 31, 128, 128] inb_S1x64x128x128_S1x31x128x128_0_33_0_0))

section Shifts
variable (f : Vol) (d : Fin 64) (h w : Fin 128)

/-- The row before, zero before the first row. -/
theorem row_before {i : ℕ} (hi : i < 64) (e : i = d.val) :
    (if p : h.val < 1 then 0 else f ⟨i, hi⟩ ⟨h.val - 1, Nat.lt_of_le_of_lt (Nat.sub_le _ _) h.isLt⟩ w)
      = framed f (d.val + 1) h.val (w.val + 1) := by
  split
  · exact (framed_out f (by omega)).symm
  · exact (framed_in f _ _ _ (by simp only [e]) (by simp only; omega) rfl).symm

/-- The row after, zero after the last row. -/
theorem row_after {i : ℕ} (hi : i < 64) (e : i = d.val) :
    (if p : h.val < 127 then f ⟨i, hi⟩ ⟨1 + h.val, by omega⟩ w else 0)
      = framed f (d.val + 1) (h.val + 2) (w.val + 1) := by
  split
  · exact (framed_in f _ _ _ (by simp only [e]) (by simp only; omega) rfl).symm
  · exact (framed_out f (by omega)).symm

/-- The column before, zero before the first column. -/
theorem column_before {i : ℕ} (hi : i < 64) (e : i = d.val) :
    (if p : w.val < 1 then 0 else f ⟨i, hi⟩ h ⟨w.val - 1, Nat.lt_of_le_of_lt (Nat.sub_le _ _) w.isLt⟩)
      = framed f (d.val + 1) (h.val + 1) w.val := by
  split
  · exact (framed_out f (by omega)).symm
  · exact (framed_in f _ _ _ (by simp only [e]) rfl (by simp only; omega)).symm

/-- The column after, zero after the last column. -/
theorem column_after {i : ℕ} (hi : i < 64) (e : i = d.val) :
    (if p : w.val < 127 then f ⟨i, hi⟩ h ⟨1 + w.val, by omega⟩ else 0)
      = framed f (d.val + 1) (h.val + 1) (w.val + 2) := by
  split
  · exact (framed_in f _ _ _ (by simp only [e]) rfl (by simp only; omega)).symm
  · exact (framed_out f (by omega)).symm

end Shifts

/-- The lower half's sum. -/
theorem lowSum_apply (dt : Vec Ideal S1x8x128 .f32) (x : Vec Ideal S1x64x128x128 .f32) (o op tg : Vec Ideal S1x32x128x128 .f32) :
    lowSum dt x o op tg (ix4 0 0 0 0) = half dt x o op tg 0 := by
  unfold half lowSum
  pointwise [k0_pay12]
  rw [Ideal.reduceAdd_total _ (by decide), sum_idx4, Fin.sum_univ_one]
  refine Finset.sum_congr rfl fun d _ => Finset.sum_congr rfl fun h _ => Finset.sum_congr rfl fun w _ => ?_
  have hd := d.isLt
  have hk := depth_low d
  pointwise [k0_pay1, k0_pay2, k0_pay3, k0_pay4, k0_pay5, k0_pay6, k0_pay7]
  refine congrArg (fun z : EReal => z * z + (o (ix4 0 d h w) - tg (ix4 0 d h w)) * (o (ix4 0 d h w) - tg (ix4 0 d h w))) ?_
  refine misfit_of (f := sample x) (k := depth 0 d) ?_ ?_ ?_ ?_ ?_ ?_ ?_
  · split
    · exact (framed_out _ (by omega)).symm
    · exact (framed_in (sample x) _ h w (by simp only; omega) rfl rfl).symm
  · exact (framed_in (sample x) _ h w (by simp only; omega) rfl rfl).symm
  · exact row_before (sample x) (depth 0 d) h w (i := d.val) (by omega) (by omega)
  · exact row_after (sample x) (depth 0 d) h w (i := d.val) (by omega) (by omega)
  · exact column_before (sample x) (depth 0 d) h w (i := d.val) (by omega) (by omega)
  · exact column_after (sample x) (depth 0 d) h w (i := d.val) (by omega) (by omega)
  · exact congrArg (fun k => sample x k h w) (Fin.ext (by simp only; omega))

/-- The upper half's sum. -/
theorem highSum_apply (dt : Vec Ideal S1x8x128 .f32) (x : Vec Ideal S1x64x128x128 .f32) (o op tg : Vec Ideal S1x32x128x128 .f32) :
    highSum dt x o op tg (ix4 0 0 0 0) = half dt x o op tg 1 := by
  unfold half highSum
  pointwise [k0_pay13]
  rw [Ideal.reduceAdd_total _ (by decide), sum_idx4, Fin.sum_univ_one]
  refine Finset.sum_congr rfl fun d _ => Finset.sum_congr rfl fun h _ => Finset.sum_congr rfl fun w _ => ?_
  have hd := d.isLt
  have hk := depth_high d
  pointwise [k0_pay1, k0_pay2, k0_pay3, k0_pay4, k0_pay5, k0_pay6, k0_pay7]
  refine congrArg (fun z : EReal => z * z + (o (ix4 0 d h w) - tg (ix4 0 d h w)) * (o (ix4 0 d h w) - tg (ix4 0 d h w))) ?_
  refine misfit_of (f := sample x) (k := depth 1 d) ?_ ?_ ?_ ?_ ?_ ?_ ?_
  · exact (framed_in (sample x) _ h w (by simp only; omega) rfl rfl).symm
  · split
    · exact (framed_in (sample x) _ h w (by simp only; omega) rfl rfl).symm
    · exact (framed_out _ (by omega)).symm
  · exact row_before (sample x) (depth 1 d) h w (i := 32 + d.val) (by omega) (by omega)
  · exact row_after (sample x) (depth 1 d) h w (i := 32 + d.val) (by omega) (by omega)
  · exact column_before (sample x) (depth 1 d) h w (i := 32 + d.val) (by omega) (by omega)
  · exact column_after (sample x) (depth 1 d) h w (i := 32 + d.val) (by omega) (by omega)
  · exact congrArg (fun k => sample x k h w) (Fin.ext (by simp only; omega))

end Cert.KernelIdeal.Loss

end
-- ==== Proof.Acc.lean ====
/-
  The accumulator over the grid: the first point stores its half's sum, every later point adds its own, so after the last
  point the accumulator's corner holds the sum of the thirty-two half-sample sums.
-/
module

public import proofs.«01_k».proof.Proof.Block

@[expose] public section

set_option maxRecDepth 16384

noncomputable section

namespace Cert.KernelIdeal.Loss

open Idealize.ShloMosaic Idealize.ShloMosaic.TcCoe Idealize.SL.Sem
open Cert.KernelIdeal Cert.KernelIdeal.Gen Cert.Loss

variable (m : (ℓ : Loc nD τ sig) → Buf (Elt Ideal) ℓ) (c : Dev nD)

/-- The half of a sample that point `t` sums. -/
def side (t : ℕ) : Fin 2 := ⟨t % 2, Nat.mod_lt _ (by decide)⟩

/-- The sum point `t` contributes, from its input blocks. -/
def term (t : Fin cfg0.N) : EReal :=
  half (iblk m c 0 t) (iblk m c 1 t) (iblk m c 2 t) (iblk m c 3 t) (iblk m c 4 t) (side t.val)

/-- An even point sums the lower half. -/
theorem side_even {t : ℕ} (h : t % 2 = 0) : side t = 0 := Fin.ext h

/-- An odd point sums the upper half. -/
theorem side_odd {t : ℕ} (h : t % 2 = 1) : side t = 1 := Fin.ext h

/-- Storing a sum over the whole accumulator. -/
theorem spread_apply (s : FVec Ideal S1x1x1x1 .f32) (r : Fin 8) (l : Fin 128) :
    k0_pay8 s (ix2 r l) = s (ix4 0 0 0 0) := by
  pointwise [k0_pay8]

/-- Adding a sum over the whole accumulator, at a point of the lower half. -/
theorem addLow_apply (s : FVec Ideal S1x1x1x1 .f32) (a : Vec Ideal S8x128 .f32) (r : Fin 8) (l : Fin 128) :
    k0_pay9 s a (ix2 r l) = a (ix2 r l) + s (ix4 0 0 0 0) := by
  pointwise [k0_pay9, k0_pay8]

/-- Adding a sum over the whole accumulator, at a point of the upper half. -/
theorem addHigh_apply (s : FVec Ideal S1x1x1x1 .f32) (a : Vec Ideal S8x128 .f32) (r : Fin 8) (l : Fin 128) :
    k0_pay11 s a (ix2 r l) = a (ix2 r l) + s (ix4 0 0 0 0) := by
  pointwise [k0_pay11, k0_pay10]

/-- The first point leaves its own sum everywhere. -/
theorem first (t : Fin cfg0.N) (h : t.val % 32 = 0) (i : S8x128.Idx) :
    outsAt0 m c t.val t.isLt i = 0 + term m c t := by
  have hN : cfg0.N = 32 := N_0
  have ht := t.isLt
  rw [outsAt0_A m c t (by omega) h (by omega) (by omega), zero_add]
  obtain ⟨r, l, rfl⟩ : ∃ (r : Fin 8) (l : Fin 128), i = ix2 r l := ⟨i 0, i 1, eq_ix2 i⟩
  frame_out
  refine (spread_apply _ r l).trans ?_
  unfold term
  rw [side_even (by omega)]
  exact lowSum_apply ..

/-- Every later point adds its own sum everywhere. -/
theorem later (t : Fin cfg0.N) (h : ¬t.val % 32 = 0) (i : S8x128.Idx) :
    outsAt0 m c t.val t.isLt i
      = outsAt0 m c (t.val - 1) (Nat.lt_of_le_of_lt (Nat.sub_le _ _) t.isLt) i + term m c t := by
  have hN : cfg0.N = 32 := N_0
  have ht := t.isLt
  obtain ⟨r, l, rfl⟩ : ∃ (r : Fin 8) (l : Fin 128), i = ix2 r l := ⟨i 0, i 1, eq_ix2 i⟩
  by_cases e : t.val % 2 = 0
  · rw [outsAt0_C m c t e h (by omega) (by omega)]
    frame_out
    refine (addLow_apply _ _ r l).trans ?_
    unfold term
    rw [side_even e]
    exact congrArg _ (lowSum_apply ..)
  · rw [outsAt0_B m c t e (by omega) h (by omega)]
    frame_out
    refine (addHigh_apply _ _ r l).trans ?_
    unfold term
    rw [side_odd (by omega)]
    exact congrArg _ (highSum_apply ..)

/-- The grid's last point. -/
abbrev lastPoint : Fin cfg0.N := ⟨31, by rw [show cfg0.N = 32 from N_0]; decide⟩

/-- After the last point the accumulator holds the sum of all points' sums. -/
theorem last (i : S8x128.Idx) :
    outsAt0 m c lastPoint.val lastPoint.isLt i = ∑ p : Fin cfg0.N, term m c p := by
  have key := Pipeline.eq_sum_fin_of_reset_step_apply_last (fun n h => outsAt0 m c n h) 32 (fun _ => 0)
    (fun t _ => term m c t) (first m c) (later m c) (le_of_eq N_0) lastPoint rfl i
  rwa [zero_add] at key

end Cert.KernelIdeal.Loss

end
-- ==== Proof.Inputs.lean ====
/-
  What a grid point reads: its input blocks as entries of the argument arrays. Point `t` works on sample `t / 2` and half
  `t % 2`; the host has only dropped the unit channel axis and spread each sample's time step over a block.
-/
module

public import proofs.«01_k».proof.Proof.Acc

@[expose] public section

set_option maxRecDepth 16384

noncomputable section

namespace Cert.KernelIdeal.Loss

open Idealize.ShloMosaic Idealize.ShloMosaic.TcCoe Idealize.SL.Sem
open Cert.KernelIdeal Cert.KernelIdeal.Gen Cert.Loss

variable (m : (ℓ : Loc nD τ sig) → Buf (Elt Ideal) ℓ) (c : Dev nD)

/-- The arguments of `@main` at a device, each as an array of extended reals. -/
abbrev inputArg : Vec Ideal S16x1x64x128x128 .f32 := m ((c.tc : Thread nD τ).loc main_arg0)
/-- The current output. -/
abbrev outputArg : Vec Ideal S16x1x64x128x128 .f32 := m ((c.tc : Thread nD τ).loc main_arg1)
/-- The past output. -/
abbrev pastArg : Vec Ideal S16x1x64x128x128 .f32 := m ((c.tc : Thread nD τ).loc main_arg2)
/-- The current times. -/
abbrev timeArg : Vec Ideal S16x1 .f32 := m ((c.tc : Thread nD τ).loc main_arg3)
/-- The past times. -/
abbrev pastTimeArg : Vec Ideal S16x1 .f32 := m ((c.tc : Thread nD τ).loc main_arg4)
/-- The target. -/
abbrev targetArg : Vec Ideal S16x1x64x128x128 .f32 := m ((c.tc : Thread nD τ).loc main_arg5)

/-- Where every input window stands at point `t`. -/
theorem idx : ∀ t : Fin cfg0.N, win0_0.index t = ![t.val / 2, 0, 0] ∧ win0_1.index t = ![t.val / 2, 0, 0, 0]
    ∧ win0_2.index t = ![t.val / 2, t.val % 2, 0, 0] ∧ win0_3.index t = ![t.val / 2, t.val % 2, 0, 0]
    ∧ win0_4.index t = ![t.val / 2, t.val % 2, 0, 0] := by decide +kernel

/-- The host's four reshapes drop the unit channel axis. -/
theorem entry_input : V m c main_v0 = shapeCast S16x64x128x128 (inputArg m c) shapeCasts_S16x1x64x128x128_S16x64x128x128 := by
  entry_read; rfl
/-- So does the current output's. -/
theorem entry_output : V m c main_v1 = shapeCast S16x64x128x128 (outputArg m c) shapeCasts_S16x1x64x128x128_S16x64x128x128 := by
  entry_read; rfl
/-- So does the past output's. -/
theorem entry_past : V m c main_v2 = shapeCast S16x64x128x128 (pastArg m c) shapeCasts_S16x1x64x128x128_S16x64x128x128 := by
  entry_read; rfl
/-- So does the target's. -/
theorem entry_target : V m c main_v3 = shapeCast S16x64x128x128 (targetArg m c) shapeCasts_S16x1x64x128x128_S16x64x128x128 := by
  entry_read; rfl
/-- A time per sample, spread over one block per sample. -/
def spreadStep (x y : FVec Ideal S16x1 .f32) : FVec Ideal S16x8x128 .f32 :=
  broadcastInDim S16x8x128 ![0, 1, 2] bcast_S16x1x1_S16x8x128_0_1_2
    (broadcastInDim S16x1x1 ![0, 1] bcast_S16x1_S16x1x1_0_1 (subf x y))
/-- The time steps, spread over one block per sample. -/
theorem entry_step : V m c main_v6 = spreadStep (timeArg m c) (pastTimeArg m c) := by
  entry_read; rfl

/-- A reshaped argument at an index. -/
theorem drop_apply (x : Vec Ideal S16x1x64x128x128 .f32) (b : Fin 16) (d : Fin 64) (h w : Fin 128) :
    shapeCast S16x64x128x128 x shapeCasts_S16x1x64x128x128_S16x64x128x128 (ix4 b d h w) = x (ix5 b 0 d h w) := by
  pointwise

/-- The spread time steps at an index. -/
theorem spreadStep_apply (x y : FVec Ideal S16x1 .f32) (b : Fin 16) (r : Fin 8) (l : Fin 128) :
    spreadStep x y (ix3 b r l) = x (ix2 b 0) - y (ix2 b 0) := by
  pointwise [spreadStep]

variable (t : Fin cfg0.N) (hb : t.val / 2 < 16)

/-- The time step's block holds the sample's time step. -/
theorem step_read : (iblk m c 0 t : Vec Ideal S1x8x128 .f32) (ix3 0 0 0)
    = timeArg m c (ix2 ⟨t.val / 2, hb⟩ 0) - pastTimeArg m c (ix2 ⟨t.val / 2, hb⟩ 0) := by
  refine Eq.trans ?_ ((congrFun (entry_step m c) (ix3 ⟨t.val / 2, hb⟩ 0 0)).trans (spreadStep_apply _ _ _ _ _))
  refine congrArg (V m c main_v6) ?_
  blk_ext [idx t]

/-- The input's block is the sample. -/
theorem input_read (d : Fin 64) (h w : Fin 128) : (iblk m c 1 t : Vec Ideal S1x64x128x128 .f32) (ix4 0 d h w)
    = inputArg m c (ix5 ⟨t.val / 2, hb⟩ 0 d h w) := by
  refine Eq.trans ?_ ((congrFun (entry_input m c) (ix4 ⟨t.val / 2, hb⟩ d h w)).trans (drop_apply _ _ _ _ _))
  refine congrArg (V m c main_v0) ?_
  blk_ext [idx t]

/-- The current output's block is half of the sample. -/
theorem output_read (d : Fin 32) (h w : Fin 128) : (iblk m c 2 t : Vec Ideal S1x32x128x128 .f32) (ix4 0 d h w)
    = outputArg m c (ix5 ⟨t.val / 2, hb⟩ 0 (depth (side t.val) d) h w) := by
  refine Eq.trans ?_ ((congrFun (entry_output m c) (ix4 ⟨t.val / 2, hb⟩ (depth (side t.val) d) h w)).trans (drop_apply _ _ _ _ _))
  refine congrArg (V m c main_v1) ?_
  blk_ext [idx t, depth, side]

/-- The past output's block is half of the sample. -/
theorem past_read (d : Fin 32) (h w : Fin 128) : (iblk m c 3 t : Vec Ideal S1x32x128x128 .f32) (ix4 0 d h w)
    = pastArg m c (ix5 ⟨t.val / 2, hb⟩ 0 (depth (side t.val) d) h w) := by
  refine Eq.trans ?_ ((congrFun (entry_past m c) (ix4 ⟨t.val / 2, hb⟩ (depth (side t.val) d) h w)).trans (drop_apply _ _ _ _ _))
  refine congrArg (V m c main_v2) ?_
  blk_ext [idx t, depth, side]

/-- The target's block is half of the sample. -/
theorem target_read (d : Fin 32) (h w : Fin 128) : (iblk m c 4 t : Vec Ideal S1x32x128x128 .f32) (ix4 0 d h w)
    = targetArg m c (ix5 ⟨t.val / 2, hb⟩ 0 (depth (side t.val) d) h w) := by
  refine Eq.trans ?_ ((congrFun (entry_target m c) (ix4 ⟨t.val / 2, hb⟩ (depth (side t.val) d) h w)).trans (drop_apply _ _ _ _ _))
  refine congrArg (V m c main_v3) ?_
  blk_ext [idx t, depth, side]

end Cert.KernelIdeal.Loss

end
-- ==== Proof.Total.lean ====
/-
  The kernel's result: the accumulator's corner after the run, divided by the number of places, is the sum of both squares
  over every place of the batch, divided by the number of places.
-/
module

public import proofs.«01_k».proof.Proof.Inputs

@[expose] public section

set_option maxRecDepth 16384

noncomputable section

namespace Cert.KernelIdeal.Loss

open Idealize.ShloMosaic Idealize.ShloMosaic.TcCoe Idealize.SL.Sem
open Cert.KernelIdeal Cert.KernelIdeal.Gen Cert.Loss

variable (m : (ℓ : Loc nD τ sig) → Buf (Elt Ideal) ℓ) (ρ : Dev nD → PrngReg) (c : Dev nD)

/-- The time step of sample `b`. -/
def step (b : Fin 16) : EReal := timeArg m c (ix2 b 0) - pastTimeArg m c (ix2 b 0)

/-- The misfit at a place of sample `b`, the temporal derivative taken through the time step's reciprocal. -/
def rest (b : Fin 16) (d : Fin 64) (h w : Fin 128) : EReal :=
  misfit (fun d h w => inputArg m c (ix5 b 0 d h w))
    ((outputArg m c (ix5 b 0 d h w) - pastArg m c (ix5 b 0 d h w)) * Ideal.div 1 (step m c b)) d h w

/-- The output's error at a place of sample `b`. -/
def error (b : Fin 16) (d : Fin 64) (h w : Fin 128) : EReal :=
  outputArg m c (ix5 b 0 d h w) - targetArg m c (ix5 b 0 d h w)

/-- A point's sum, in the argument arrays. -/
theorem term_eq (t : Fin cfg0.N) (hb : t.val / 2 < 16) : term m c t = ∑ d : Fin 32, ∑ h : Fin 128, ∑ w : Fin 128,
    (rest m c ⟨t.val / 2, hb⟩ (depth (side t.val) d) h w * rest m c ⟨t.val / 2, hb⟩ (depth (side t.val) d) h w
      + error m c ⟨t.val / 2, hb⟩ (depth (side t.val) d) h w * error m c ⟨t.val / 2, hb⟩ (depth (side t.val) d) h w) := by
  unfold term half
  refine Finset.sum_congr rfl fun d _ => Finset.sum_congr rfl fun h _ => Finset.sum_congr rfl fun w _ => ?_
  have hs : sample (iblk m c 1 t) = fun d h w => inputArg m c (ix5 ⟨t.val / 2, hb⟩ 0 d h w) :=
    funext fun d => funext fun h => funext fun w => input_read m c t hb d h w
  unfold cell rest error step
  rw [hs, step_read m c t hb, output_read m c t hb, past_read m c t hb, target_read m c t hb]

/-- The accumulator's corner after the run: both squares summed over the batch. -/
theorem corner (i : S8x128.Idx) : outsAt0 m c lastPoint.val lastPoint.isLt i
    = ∑ b : Fin 16, ∑ d : Fin 64, ∑ h : Fin 128, ∑ w : Fin 128,
      (rest m c b d h w * rest m c b d h w + error m c b d h w * error m c b d h w) := by
  rw [last]
  have bound (t : Fin cfg0.N) : t.val / 2 < 16 := by have hN : cfg0.N = 32 := N_0; have := t.isLt; omega
  rw [Finset.sum_congr rfl fun t _ => term_eq m c t (bound t)]
  refine Fin.sum_points_lanes_congr 2 (fun t k ha hl => ?_) N_0
  rfl

/-- The result array after the run holds the total everywhere. -/
theorem array : (dats m 0 c).arrAt 5 cfg0.N = (fun _ => ∑ b : Fin 16, ∑ d : Fin 64, ∑ h : Fin 128, ∑ w : Fin 128,
      (rest m c b d h w * rest m c b d h w + error m c b d h w * error m c b d h w) : FVec Ideal S8x128 .f32) := by
  refine (dats m 0 c).arrAt_eq_of_after_last 5 lastPoint (by decide +kernel) _ fun j => ?_
  blk_simp
  rw [after0_5]
  exact corner m c j

/-- What `@main` returns: the total over the number of places. -/
def value : Buf (Elt Ideal) ((c.tc : Thread nD τ).loc main_v10) :=
  (fun _ => Ideal.div (∑ b : Fin 16, ∑ d : Fin 64, ∑ h : Fin 128, ∑ w : Fin 128,
      (rest m c b d h w * rest m c b d h w + error m c b d h w * error m c b d h w)) places : FVec Ideal S_ .f32)

/-- The host operations after the launch slice the accumulator's corner and divide it. -/
theorem tail : Pipeline.afterTail₀ cfgs (dats m) 0 (V0 m) [hostOps1] c main_v10 = value m c := by
  have h7 := (Pipeline.withArrays_arr spec0 launch0.win.arr_inj c (V0 m c) (fun w => (dats m 0 c).arrAt w (cfgs 0).N) 5).trans
    (array m c)
  unfold Pipeline.afterTail₀
  revert h7
  generalize (Pipeline.withArrays (cfgs 0).spec c (V0 m c) fun w => (dats m 0 c).arrAt w (cfgs 0).N) = σ
  intro h7
  simp only [List.flatten_cons, List.flatten_nil, List.append_nil]
  after_results_simp
  refine (congrArg (fun a => Host.divf (fun i => shapeCast main_v9.ty.shape
    (extractStridedSlice S1x1 ![0, 0] a slices_S8x128_S1x1_0_0) shapeCasts_S1x1_S_ i) (constant (F := Ideal) S_ .f32 0x4B800000#32)) h7).trans ?_
  rfl

/-- The run, read: the result at the total over the number of places, the arguments unchanged. -/
theorem run : θ_run defs (onTc (τ := τ) (main (F := Ideal))) ⟨m, fun _ => 0, ρ⟩ fun r => ∀ c : Dev nD,
      r.2.mem ((c.tc : Thread nD τ).loc main_v10) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).2 main_v10 (Pipeline.mem_restRefs_of main_v10 (by decide) (by decide))).trans (tail m c), h.2 c⟩)
    (θ_run_and (run_main m ρ) (unchanged m ρ))

end Cert.KernelIdeal.Loss

end
-- ==== Proof.Reference.lean ====
/-
  The reference's result: the mean squared error plus one times the mean squared misfit, each mean the sum over every place
  of the batch started from zero and divided by the number of places.
-/
module

public import proofs.«01_k».proof.Proof.Total
public import proofs.«01_k».proof.Proof.Gen.ReferenceIdeal.Run

@[expose] public section

set_option maxRecDepth 16384

noncomputable section

namespace Cert.ReferenceIdeal.Loss

open Idealize.ShloMosaic Idealize.ShloMosaic.TcCoe Idealize.SL.Sem
open Cert.ReferenceIdeal Cert.ReferenceIdeal.Gen Cert.Loss

variable (x o op tg : FVec Ideal S16x1x64x128x128 .f32) (t tp : FVec Ideal S16x1 .f32)

/-- The padded input: the array in a frame of zeros along depth, row and column. -/
def padded : FVec Ideal S16x1x66x130x130 .f32 :=
  pad S16x1x66x130x130 ![0, 0, 1, 1, 1] ![0, 0, 1, 1, 1] ![0, 0, 0, 0, 0] x (sitofp .f32 (constantI S_ 32 0#32))
    pads_S16x1x64x128x128_S16x1x66x130x130_000_000_110_110_110 h_S_

/-- The padded input at an index is the framed sample. -/
theorem padded_apply (b : Fin 16) (d : Fin 66) (h w : Fin 130) :
    padded x (ix5 b 0 d h w) = framed (fun d h w => x (ix5 b 0 d h w)) d.val h.val w.val := by
  unfold padded
  pointwise
  have zero : FloatOps.sitofp (F := Ideal) .f32 0#32 = (0 : EReal) := by simp [FloatOps.sitofp]
  rw [zero]
  rfl

/-- The misfit at every place. -/
def misfits : FVec Ideal S16x1x64x128x128 .f32 :=
  subf (subf (Host.divf (subf o op) (broadcastInDim S16x1x64x128x128 ![0, 1, 2, 3, 4] bcast_S16x1x1x1x1_S16x1x64x128x128_0_1_2_3_4
      (broadcastInDim S16x1x1x1x1 ![0, 1] bcast_S16x1_S16x1x1x1x1_0_1 (subf t tp))))
    (mulf (broadcastInDim S16x1x64x128x128 ![] bcast_S_S16x1x64x128x128 (constant S_ .f32 0x3CD288CE#32))
      (addf (addf (addf (addf (addf (addf
        (extractStridedSlice S16x1x64x128x128 ![0, 0, 0, 1, 1] (padded x) slices_S16x1x66x130x130_S16x1x64x128x128_0_0_0_1_1)
        (extractStridedSlice S16x1x64x128x128 ![0, 0, 2, 1, 1] (padded x) slices_S16x1x66x130x130_S16x1x64x128x128_0_0_2_1_1))
        (extractStridedSlice S16x1x64x128x128 ![0, 0, 1, 0, 1] (padded x) slices_S16x1x66x130x130_S16x1x64x128x128_0_0_1_0_1))
        (extractStridedSlice S16x1x64x128x128 ![0, 0, 1, 2, 1] (padded x) slices_S16x1x66x130x130_S16x1x64x128x128_0_0_1_2_1))
        (extractStridedSlice S16x1x64x128x128 ![0, 0, 1, 1, 0] (padded x) slices_S16x1x66x130x130_S16x1x64x128x128_0_0_1_1_0))
        (extractStridedSlice S16x1x64x128x128 ![0, 0, 1, 1, 2] (padded x) slices_S16x1x66x130x130_S16x1x64x128x128_0_0_1_1_2))
        (mulf (broadcastInDim S16x1x64x128x128 ![] bcast_S_S16x1x64x128x128 (constant S_ .f32 0xC0C00000#32))
          (extractStridedSlice S16x1x64x128x128 ![0, 0, 1, 1, 1] (padded x) slices_S16x1x66x130x130_S16x1x64x128x128_0_0_1_1_1)))))
    (select (cmpf .ogt x (broadcastInDim S16x1x64x128x128 ![] bcast_S_S16x1x64x128x128 (constant S_ .f32 0x3D12BFC7#32)))
      (broadcastInDim S16x1x64x128x128 ![] bcast_S_S16x1x64x128x128 (constant S_ .f32 0x4069F99B#32))
      (broadcastInDim S16x1x64x128x128 ![] bcast_S_S16x1x64x128x128 (constant S_ .f32 0x00000000#32)))

/-- The misfit at a place. -/
theorem misfits_apply (b : Fin 16) (d : Fin 64) (h w : Fin 128) : misfits x o op t tp (ix5 b 0 d h w)
    = misfit (fun d h w => x (ix5 b 0 d h w))
      (Ideal.div (o (ix5 b 0 d h w) - op (ix5 b 0 d h w)) (t (ix2 b 0) - tp (ix2 b 0))) d h w := by
  unfold misfits misfit lap
  pointwise
  simp only [padded_apply]
  rw [framed_in (fun d h w => x (ix5 b 0 d h w)) d h w (Nat.add_comm _ _) (Nat.add_comm _ _) (Nat.add_comm _ _)]
  simp only [Nat.add_comm 1, Nat.add_comm 2]

/-- The mean of an array's square. -/
def meanSquare (a : FVec Ideal S16x1x64x128x128 .f32) : FVec Ideal S_ .f32 :=
  Host.divf (Host.reduceAdd (mulf a a) (constant S_ .f32 0x00000000#32) reducesTo_S16x1x64x128x128_S_d0_1_2_3_4 h_S_)
    (constant S_ .f32 0x4B800000#32)

/-- The mean of an array's square is the sum of the squares over all places, divided by their number. -/
theorem meanSquare_apply (a : FVec Ideal S16x1x64x128x128 .f32) (i : S_.Idx) : meanSquare a i
    = Ideal.div (0 + ∑ b : Fin 16, ∑ d : Fin 64, ∑ h : Fin 128, ∑ w : Fin 128, a (ix5 b 0 d h w) * a (ix5 b 0 d h w)) places := by
  unfold meanSquare
  pointwise
  rw [Ideal.hostReduceAdd_total _ (by decide), sum_idx5, zero_add]
  simp only [Fin.sum_univ_one]
  rfl

/-- The reference's result, at its one index. -/
theorem value_apply (m : (ℓ : Loc nD τ sig) → Buf (Elt Ideal) ℓ) (c : Dev nD) (i : S_.Idx) :
    (Value.res_main_v36 m c : FVec Ideal S_ .f32) i
      = meanSquare (subf (m ((c.tc : Thread nD τ).loc main_arg1)) (m ((c.tc : Thread nD τ).loc main_arg5))) i
        + 1 * meanSquare (misfits (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) i := by
  have e : (Value.res_main_v36 m c : FVec Ideal S_ .f32)
      = addf (meanSquare (subf (m ((c.tc : Thread nD τ).loc main_arg1)) (m ((c.tc : Thread nD τ).loc main_arg5))))
        (mulf (constant S_ .f32 0x3F800000#32) (meanSquare (misfits (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))))) := by
    rfl
  rw [e]
  pointwise

end Cert.ReferenceIdeal.Loss

end
-- ==== Proof.Tie.lean ====
/-
  The two programs' results are one number: where the kernel multiplies by the time step's reciprocal the reference divides
  by the step, and the two agree because the precondition keeps every step away from zero; the kernel's one mean of both
  squares is then the sum of the reference's two means.
-/
module

public import proofs.«01_k».proof.Defs
public import proofs.«01_k».proof.Proof.Reference
public import proofs.«01_k».proof.Proof.Gen.KernelIdeal.Frame
public import proofs.«01_k».proof.Proof.Gen.Pre_steps_nonzero
public import Idealize.ShloMosaic.Lib.IdealHost
public import Idealize.ShloMosaic.Lib.Quiescent

@[expose] public section

set_option maxRecDepth 16384

noncomputable section

namespace Cert.Tie

open Idealize.ShloMosaic Idealize.ShloMosaic.TcCoe Idealize.SL.Sem
open Cert.Loss

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- Under the precondition no sample's time step is zero. -/
theorem step_ne_zero (hp : Cert.Pre_KernelIdeal_steps_nonzero m) (b : Fin 16) : Cert.KernelIdeal.Loss.step m c b ≠ 0 := by
  intro hz
  have h := congrFun (hp c) (ix2 b 0)
  pointwise [Cert.Pre_steps_nonzero.fn] at h
  unfold Cert.KernelIdeal.Loss.step at hz
  rw [decide_eq_false (not_not.mpr hz)] at h
  exact absurd h (by decide)

/-- The kernel's misfit, its derivative written as a quotient, for a time step that is not zero. -/
theorem rest_eq (hs : ∀ b, Cert.KernelIdeal.Loss.step m c b ≠ 0) (b : Fin 16) (d : Fin 64) (h w : Fin 128) :
    Cert.KernelIdeal.Loss.rest m c b d h w
      = Cert.ReferenceIdeal.Loss.misfits (Cert.KernelIdeal.Loss.inputArg m c) (Cert.KernelIdeal.Loss.outputArg m c)
          (Cert.KernelIdeal.Loss.pastArg m c) (Cert.KernelIdeal.Loss.timeArg m c) (Cert.KernelIdeal.Loss.pastTimeArg m c) (ix5 b 0 d h w) := by
  rw [Cert.ReferenceIdeal.Loss.misfits_apply]
  unfold Cert.KernelIdeal.Loss.rest
  rw [Ideal.mul_one_div (hs b)]
  rfl

/-- From equal arguments, and with no time step zero, the reference's result is the kernel's. -/
theorem value_eq (hs : ∀ b, Cert.KernelIdeal.Loss.step m c b ≠ 0)
    (h0 : m' ((c.tc : Thread Cert.ReferenceIdeal.nD Cert.ReferenceIdeal.τ).loc Cert.ReferenceIdeal.main_arg0) = Cert.KernelIdeal.Loss.inputArg m c)
    (h1 : m' ((c.tc : Thread Cert.ReferenceIdeal.nD Cert.ReferenceIdeal.τ).loc Cert.ReferenceIdeal.main_arg1) = Cert.KernelIdeal.Loss.outputArg m c)
    (h2 : m' ((c.tc : Thread Cert.ReferenceIdeal.nD Cert.ReferenceIdeal.τ).loc Cert.ReferenceIdeal.main_arg2) = Cert.KernelIdeal.Loss.pastArg m c)
    (h3 : m' ((c.tc : Thread Cert.ReferenceIdeal.nD Cert.ReferenceIdeal.τ).loc Cert.ReferenceIdeal.main_arg3) = Cert.KernelIdeal.Loss.timeArg m c)
    (h4 : m' ((c.tc : Thread Cert.ReferenceIdeal.nD Cert.ReferenceIdeal.τ).loc Cert.ReferenceIdeal.main_arg4) = Cert.KernelIdeal.Loss.pastTimeArg m c)
    (h5 : m' ((c.tc : Thread Cert.ReferenceIdeal.nD Cert.ReferenceIdeal.τ).loc Cert.ReferenceIdeal.main_arg5) = Cert.KernelIdeal.Loss.targetArg m c) :
    (Cert.ReferenceIdeal.Value.res_main_v36 m' c : FVec Ideal Cert.ReferenceIdeal.S_ .f32) = Cert.KernelIdeal.Loss.value m c := by
  funext i
  rw [Cert.ReferenceIdeal.Loss.value_apply, h0, h1, h2, h3, h4, h5,
    Cert.ReferenceIdeal.Loss.meanSquare_apply, Cert.ReferenceIdeal.Loss.meanSquare_apply]
  have e := loss_eq (Cert.KernelIdeal.Loss.rest m c) (Cert.KernelIdeal.Loss.error m c)
  simp only [rest_eq m c hs] at e
  refine Eq.trans ?_ ((congrArg (fun x => Ideal.div x places) ?_).trans e).symm
  · rfl
  · simp only [← rest_eq m c hs]

/-- The reference leaves its arguments and every counter as they were. -/
theorem reference_frame (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩ (fun r => (∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m' g)

/-- The kernel and the reference end with equal results, from equal arguments whose time steps are not zero. -/
theorem algebraic : Cert.algebraic_KernelIdeal_ReferenceIdeal_pre_steps_nonzero := by
  intro m g m' g' hp hagree
  refine ⟨fun c => Cert.KernelIdeal.Loss.value m c, Cert.KernelIdeal.Loss.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5⟩ := hagree c
  exact value_eq m m' c (step_ne_zero m c hp) h0 h1 h2 h3 h4 h5

end Cert.Tie

end
-- ==== Proof.lean ====
/-
  The proof of `Cert.Claim`: each program runs to its end with its arguments and counters as they were, the idealized kernel
  is the kernel's own text, and the idealized kernel's result is the reference's wherever no time step is zero.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_steps_nonzero
public import proofs.«01_k».proof.Proof.Tie
public import Idealize.ShloMosaic.Adequacy
public import Idealize.ShloMosaic.Init

@[expose] public section

noncomputable section

namespace Cert.Proof

open Idealize.ShloMosaic Idealize.SL.Sem Cert.Kernel

/-- Every claim: the kernel's frames are the generated ones, the reference's is read off its own run, the idealization
    rewrote no operation, and the two results are equal by `Cert.Tie.algebraic`. -/
theorem claim : Cert.Claim :=
  ⟨Cert.Kernel.Gen.facts, Cert.KernelIdeal.Gen.facts, Cert.ReferenceIdeal.Gen.facts, Cert.Pre_steps_nonzero.Gen.facts,
    fun m ρ _ => Cert.Kernel.Gen.frame m ρ,
    fun m ρ _ => Cert.KernelIdeal.Gen.frame m ρ,
    fun m ρ _ => Cert.KernelIdeal.Gen.frame m ρ,
    fun m ρ _ => Cert.Tie.reference_frame m ρ,
    fun m ρ _ => Cert.Tie.reference_frame m ρ,
    trivial,
    Cert.Tie.algebraic⟩

end Cert.Proof

end
